-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_area" .f32 0x38782F05#32 ((16900⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x64x64x64 : Shape := ⟨4, ![32, 64, 64, 64]⟩
abbrev S64x128x4x4 : Shape := ⟨4, ![64, 128, 4, 4]⟩
abbrev S128 : Shape := ⟨1, ![128]⟩
abbrev S_ : Shape := ⟨0, ![]⟩

class Facts : Prop where
  bcast_S_S32x64x64x64 : S_.BroadcastsInDim S32x64x64x64 (![] : Fin 0 → Fin S32x64x64x64.rank)
  bcast_S_S64x128x4x4 : S_.BroadcastsInDim S64x128x4x4 (![] : Fin 0 → Fin S64x128x4x4.rank)

variable [Facts]

def fn {F : FTy → Type} [FloatOps F] (main_arg0 : FVec F S32x64x64x64 .f32) (main_arg1 : FVec F S64x128x4x4 .f32) (main_arg2 : FVec F S128 .f32) (main_arg3 : FVec F S128 .f32) (main_arg4 : FVec F S128 .f32) (main_arg5 : FVec F S128 .f32) (main_arg6 : FVec F S128 .f32) : IVec S32x64x64x64 1 × IVec S64x128x4x4 1 :=
  let main_v0 : FVec F S32x64x64x64 .f32 := Host.absf main_arg0
  let main_cst : FVec F S_ .f32 := constant S_ .f32 0x7F800000#32
  let main_v1 : FVec F S32x64x64x64 .f32 := broadcastInDim S32x64x64x64 ![] bcast_S_S32x64x64x64 main_cst
  let main_v2 : IVec S32x64x64x64 1 := cmpf .olt main_v0 main_v1
  let main_v3 : FVec F S64x128x4x4 .f32 := Host.absf main_arg1
  let main_cst_0 : FVec F S_ .f32 := constant S_ .f32 0x7F800000#32
  let main_v4 : FVec F S64x128x4x4 .f32 := broadcastInDim S64x128x4x4 ![] bcast_S_S64x128x4x4 main_cst_0
  let main_v5 : IVec S64x128x4x4 1 := cmpf .olt main_v3 main_v4
  (main_v2, main_v5)
-- ==== Kernel.lean ====
abbrev S32x64x64x64 : Shape := ⟨4, ![32, 64, 64, 64]⟩
abbrev S64x128x4x4 : Shape := ⟨4, ![64, 128, 4, 4]⟩
abbrev S128 : Shape := ⟨1, ![128]⟩
abbrev S4x4x64x128 : Shape := ⟨4, ![4, 4, 64, 128]⟩
abbrev S16x64x128 : Shape := ⟨3, ![16, 64, 128]⟩
abbrev S1x128 : Shape := ⟨2, ![1, 128]⟩
abbrev S32x128 : Shape := ⟨2, ![32, 128]⟩
abbrev S8x64x64x64 : Shape := ⟨4, ![8, 64, 64, 64]⟩
abbrev S8x128 : Shape := ⟨2, ![8, 128]⟩
abbrev S8x64 : Shape := ⟨2, ![8, 64]⟩
abbrev S64x128 : Shape := ⟨2, ![64, 128]⟩
abbrev S8 : Shape := ⟨1, ![8]⟩
abbrev S8x1 : Shape := ⟨2, ![8, 1]⟩

abbrev nBuf : Space → Nat
  | .hbm => 15
  | .vmem => 10
  | .smem => 0
  | _ => 0

abbrev bufTy : (tb : Table) → Fin (tcTables nBuf tb) → BufTy
  | .hbm, ⟨0, _⟩ => ⟨S32x64x64x64, .f32⟩
  | .hbm, ⟨1, _⟩ => ⟨S64x128x4x4, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S4x4x64x128, .f32⟩
  | .hbm, ⟨8, _⟩ => ⟨S16x64x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S32x128, .f32⟩
  | .local _ .vmem, ⟨0, _⟩ => ⟨S8x64x64x64, .f32⟩
  | .local _ .vmem, ⟨1, _⟩ => ⟨S8x64x64x64, .f32⟩
  | .local _ .vmem, ⟨2, _⟩ => ⟨S16x64x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S8x128, .f32⟩
  | .local _ .vmem, ⟨9, _⟩ => ⟨S8x128, .f32⟩
  | _, _ => ⟨S32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "inv_area" => some ((16900⁻¹ : ℝ) : EReal)
  | _ => none
-- ==== ReferenceIdeal.lean ====
abbrev S32x64x64x64 : Shape := ⟨4, ![32, 64, 64, 64]⟩
abbrev S64x128x4x4 : Shape := ⟨4, ![64, 128, 4, 4]⟩
abbrev S128 : Shape := ⟨1, ![128]⟩
abbrev S128x64x4x4 : Shape := ⟨4, ![128, 64, 4, 4]⟩
abbrev S_ : Shape := ⟨0, ![]⟩
abbrev S32x64x133x133 : Shape := ⟨4, ![32, 64, 133, 133]⟩
abbrev S32x64x130x130 : Shape := ⟨4, ![32, 64, 130, 130]⟩
abbrev S128x64x1x1 : Shape := ⟨4, ![128, 64, 1, 1]⟩
abbrev S128x64 : Shape := ⟨2, ![128, 64]⟩
abbrev S128x32x130x130 : Shape := ⟨4, ![128, 32, 130, 130]⟩
abbrev S32x128x130x130 : Shape := ⟨4, ![32, 128, 130, 130]⟩
abbrev S1x128x1x1 : Shape := ⟨4, ![1, 128, 1, 1]⟩
abbrev S32x128 : Shape := ⟨2, ![32, 128]⟩
abbrev S32 : Shape := ⟨1, ![32]⟩
abbrev S32x1 : Shape := ⟨2, ![32, 1]⟩
abbrev S1x128 : Shape := ⟨2, ![1, 128]⟩

abbrev nBuf : Space → Nat
  | .hbm => 180
  | .vmem => 0
  | .smem => 0
  | _ => 0

abbrev hbmTy0_0 (i : Nat) : BufTy := match i % 128 with
  | 0 => ⟨S32x64x64x64, .f32⟩
  | 1 => ⟨S64x128x4x4, .f32⟩
  | 2 => ⟨S128, .f32⟩
  | 3 => ⟨S128, .f32⟩
  | 4 => ⟨S128, .f32⟩
  | 5 => ⟨S128, .f32⟩
  | 6 => ⟨S128, .f32⟩
  | 7 => ⟨S64x128x4x4, .f32⟩
  | 8 => ⟨S128x64x4x4, .f32⟩
  | 9 => ⟨S_, .f32⟩
  | 10 => ⟨S32x64x133x133, .f32⟩
  | 11 => ⟨S32x64x130x130, .f32⟩
  | 12 => ⟨S128x64x1x1, .f32⟩
  | 13 => ⟨S128x64, .f32⟩
  | 14 => ⟨S128x32x130x130, .f32⟩
  | 15 => ⟨S32x128x130x130, .f32⟩
  | 16 => ⟨S32x64x130x130, .f32⟩
  | 17 => ⟨S128x64x1x1, .f32⟩
  | 18 => ⟨S128x64, .f32⟩
  | 19 => ⟨S128x32x130x130, .f32⟩
  | 20 => ⟨S32x128x130x130, .f32⟩
  | 21 => ⟨S32x128x130x130, .f32⟩
  | 22 => ⟨S32x64x130x130, .f32⟩
  | 23 => ⟨S128x64x1x1, .f32⟩
  | 24 => ⟨S128x64, .f32⟩
  | 25 => ⟨S128x32x130x130, .f32⟩
  | 26 => ⟨S32x128x130x130, .f32⟩
  | 27 => ⟨S32x128x130x130, .f32⟩
  | 28 => ⟨S32x64x130x130, .f32⟩
  | 29 => ⟨S128x64x1x1, .f32⟩
  | 30 => ⟨S128x64, .f32⟩
  | 31 => ⟨S128x32x130x130, .f32⟩
  | 32 => ⟨S32x128x130x130, .f32⟩
  | 33 => ⟨S32x128x130x130, .f32⟩
  | 34 => ⟨S32x64x130x130, .f32⟩
  | 35 => ⟨S128x64x1x1, .f32⟩
  | 36 => ⟨S128x64, .f32⟩
  | 37 => ⟨S128x32x130x130, .f32⟩
  | 38 => ⟨S32x128x130x130, .f32⟩
  | 39 => ⟨S32x128x130x130, .f32⟩
  | 40 => ⟨S32x64x130x130, .f32⟩
  | 41 => ⟨S128x64x1x1, .f32⟩
  | 42 => ⟨S128x64, .f32⟩
  | 43 => ⟨S128x32x130x130, .f32⟩
  | 44 => ⟨S32x128x130x130, .f32⟩
  | 45 => ⟨S32x128x130x130, .f32⟩
  | 46 => ⟨S32x64x130x130, .f32⟩
  | 47 => ⟨S128x64x1x1, .f32⟩
  | 48 => ⟨S128x64, .f32⟩
  | 49 => ⟨S128x32x130x130, .f32⟩
  | 50 => ⟨S32x128x130x130, .f32⟩
  | 51 => ⟨S32x128x130x130, .f32⟩
  | 52 => ⟨S32x64x130x130, .f32⟩
  | 53 => ⟨S128x64x1x1, .f32⟩
  | 54 => ⟨S128x64, .f32⟩
  | 55 => ⟨S128x32x130x130, .f32⟩
  | 56 => ⟨S32x128x130x130, .f32⟩
  | 57 => ⟨S32x128x130x130, .f32⟩
  | 58 => ⟨S32x64x130x130, .f32⟩
  | 59 => ⟨S128x64x1x1, .f32⟩
  | 60 => ⟨S128x64, .f32⟩
  | 61 => ⟨S128x32x130x130, .f32⟩
  | 62 => ⟨S32x128x130x130, .f32⟩
  | 63 => ⟨S32x128x130x130, .f32⟩
  | 64 => ⟨S32x64x130x130, .f32⟩
  | 65 => ⟨S128x64x1x1, .f32⟩
  | 66 => ⟨S128x64, .f32⟩
  | 67 => ⟨S128x32x130x130, .f32⟩
  | 68 => ⟨S32x128x130x130, .f32⟩
  | 69 => ⟨S32x128x130x130, .f32⟩
  | 70 => ⟨S32x64x130x130, .f32⟩
  | 71 => ⟨S128x64x1x1, .f32⟩
  | 72 => ⟨S128x64, .f32⟩
  | 73 => ⟨S128x32x130x130, .f32⟩
  | 74 => ⟨S32x128x130x130, .f32⟩
  | 75 => ⟨S32x128x130x130, .f32⟩
  | 76 => ⟨S32x64x130x130, .f32⟩
  | 77 => ⟨S128x64x1x1, .f32⟩
  | 78 => ⟨S128x64, .f32⟩
  | 79 => ⟨S128x32x130x130, .f32⟩
  | 80 => ⟨S32x128x130x130, .f32⟩
  | 81 => ⟨S32x128x130x130, .f32⟩
  | 82 => ⟨S32x64x130x130, .f32⟩
  | 83 => ⟨S128x64x1x1, .f32⟩
  | 84 => ⟨S128x64, .f32⟩
  | 85 => ⟨S128x32x130x130, .f32⟩
  | 86 => ⟨S32x128x130x130, .f32⟩
  | 87 => ⟨S32x128x130x130, .f32⟩
  | 88 => ⟨S32x64x130x130, .f32⟩
  | 89 => ⟨S128x64x1x1, .f32⟩
  | 90 => ⟨S128x64, .f32⟩
  | 91 => ⟨S128x32x130x130, .f32⟩
  | 92 => ⟨S32x128x130x130, .f32⟩
  | 93 => ⟨S32x128x130x130, .f32⟩
  | 94 => ⟨S32x64x130x130, .f32⟩
  | 95 => ⟨S128x64x1x1, .f32⟩
  | 96 => ⟨S128x64, .f32⟩
  | 97 => ⟨S128x32x130x130, .f32⟩
  | 98 => ⟨S32x128x130x130, .f32⟩
  | 99 => ⟨S32x128x130x130, .f32⟩
  | 100 => ⟨S32x64x130x130, .f32⟩
  | 101 => ⟨S128x64x1x1, .f32⟩
  | 102 => ⟨S128x64, .f32⟩
  | 103 => ⟨S128x32x130x130, .f32⟩
  | 104 => ⟨S32x128x130x130, .f32⟩
  | 105 => ⟨S32x128x130x130, .f32⟩
  | 106 => ⟨S1x128x1x1, .f32⟩
  | 107 => ⟨S32x128x130x130, .f32⟩
  | 108 => ⟨S32x128x130x130, .f32⟩
  | 109 => ⟨S_, .f32⟩
  | 110 => ⟨S32x128, .f32⟩
  | 111 => ⟨S_, .f32⟩
  | 112 => ⟨S32x128, .f32⟩
  | 113 => ⟨S32x128, .f32⟩
  | 114 => ⟨S_, .f32⟩
  | 115 => ⟨S32, .f32⟩
  | 116 => ⟨S32x1, .f32⟩
  | 117 => ⟨S_, .f32⟩
  | 118 => ⟨S32x1, .f32⟩
  | 119 => ⟨S32x1, .f32⟩
  | 120 => ⟨S32x128, .f32⟩
  | 121 => ⟨S32x128, .f32⟩
  | 122 => ⟨S32x128, .f32⟩
  | 123 => ⟨S_, .f32⟩
  | 124 => ⟨S32, .f32⟩
  | 125 => ⟨S32x1, .f32⟩
  | 126 => ⟨S_, .f32⟩
  | 127 => ⟨S32x1, .f32⟩
  | _ => ⟨S32x64x64x64, .f32⟩

abbrev hbmTy0_1 (i : Nat) : BufTy := match i % 128 with
  | 0 => ⟨S32x1, .f32⟩
  | 1 => ⟨S32x128, .f32⟩
  | 2 => ⟨S32x128, .f32⟩
  | 3 => ⟨S_, .f32⟩
  | 4 => ⟨S32x1, .f32⟩
  | 5 => ⟨S32x1, .f32⟩
  | 6 => ⟨S32x1, .f32⟩
  | 7 => ⟨S32x128, .f32⟩
  | 8 => ⟨S32x128, .f32⟩
  | 9 => ⟨S1x128, .f32⟩
  | 10 => ⟨S32x128, .f32⟩
  | 11 => ⟨S32x128, .f32⟩
  | 12 => ⟨S1x128, .f32⟩
  | 13 => ⟨S32x128, .f32⟩
  | 14 => ⟨S32x128, .f32⟩
  | 15 => ⟨S_, .f32⟩
  | 16 => ⟨S_, .f32⟩
  | 17 => ⟨S_, .f32⟩
  | 18 => ⟨S32x128, .f32⟩
  | 19 => ⟨S32x128, .f32⟩
  | 20 => ⟨S_, .f32⟩
  | 21 => ⟨S32x128, .f32⟩
  | 22 => ⟨S32x128, .f32⟩
  | 23 => ⟨S_, .f32⟩
  | 24 => ⟨S32, .f32⟩
  | 25 => ⟨S32x1, .f32⟩
  | 26 => ⟨S_, .f32⟩
  | 27 => ⟨S32x1, .f32⟩
  | 28 => ⟨S32x1, .f32⟩
  | 29 => ⟨S32x128, .f32⟩
  | 30 => ⟨S32x128, .f32⟩
  | 31 => ⟨S32x128, .f32⟩
  | 32 => ⟨S_, .f32⟩
  | 33 => ⟨S32, .f32⟩
  | 34 => ⟨S32x1, .f32⟩
  | 35 => ⟨S_, .f32⟩
  | 36 => ⟨S32x1, .f32⟩
  | 37 => ⟨S32x1, .f32⟩
  | 38 => ⟨S32x128, .f32⟩
  | 39 => ⟨S32x128, .f32⟩
  | 40 => ⟨S_, .f32⟩
  | 41 => ⟨S32x1, .f32⟩
  | 42 => ⟨S32x1, .f32⟩
  | 43 => ⟨S32x1, .f32⟩
  | 44 => ⟨S32x128, .f32⟩
  | 45 => ⟨S32x128, .f32⟩
  | 46 => ⟨S1x128, .f32⟩
  | 47 => ⟨S32x128, .f32⟩
  | 48 => ⟨S32x128, .f32⟩
  | 49 => ⟨S1x128, .f32⟩
  | 50 => ⟨S32x128, .f32⟩
  | 51 => ⟨S32x128, .f32⟩
  | _ => ⟨S32x64x64x64, .f32⟩

abbrev hbmTy (i : Nat) : BufTy := match i / 128 with
  | 0 => hbmTy0_0 i
  | 1 => hbmTy0_1 i
  | _ => ⟨S32x64x64x64, .f32⟩

abbrev bufTy : (tb : Table) → Fin (tcTables nBuf tb) → BufTy
  | .hbm, ⟨i, _⟩ => hbmTy i
  | _, _ => ⟨S32x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_cst_0 : Ref sig .tc := ⟨.hbm, 109, rfl⟩
abbrev main_v101 : Ref sig .tc := ⟨.hbm, 110, rfl⟩
abbrev main_cst_1 : Ref sig .tc := ⟨.hbm, 111, rfl⟩
abbrev main_v102 : Ref sig .tc := ⟨.hbm, 112, rfl⟩
abbrev main_v103 : Ref sig .tc := ⟨.hbm, 113, rfl⟩
abbrev main_cst_2 : Ref sig .tc := ⟨.hbm, 114, rfl⟩
abbrev main_v104 : Ref sig .tc := ⟨.hbm, 115, rfl⟩
abbrev main_v105 : Ref sig .tc := ⟨.hbm, 116, rfl⟩
abbrev main_cst_3 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_cst_4 : Ref sig .tc := ⟨.hbm, 123, rfl⟩
abbrev main_v111 : Ref sig .tc := ⟨.hbm, 124, rfl⟩
abbrev main_v112 : Ref sig .tc := ⟨.hbm, 125, rfl⟩
abbrev main_cst_5 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_cst_6 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_cst_7 : Ref sig .tc := ⟨.hbm, 143, rfl⟩
abbrev main_cst_8 : Ref sig .tc := ⟨.hbm, 144, rfl⟩
abbrev main_call1_v0 : Ref sig .tc := ⟨.hbm, 145, rfl⟩
abbrev main_call1_v1 : Ref sig .tc := ⟨.hbm, 146, rfl⟩
abbrev main_call1_v2 : Ref sig .tc := ⟨.hbm, 147, rfl⟩
abbrev main_call1_v3 : Ref sig .tc := ⟨.hbm, 148, rfl⟩
abbrev main_call1_v4 : Ref sig .tc := ⟨.hbm, 149, rfl⟩
abbrev main_v128 : Ref sig .tc := ⟨.hbm, 150, rfl⟩
abbrev main_cst_9 : Ref sig .tc := ⟨.hbm, 151, rfl⟩
abbrev main_v129 : Ref sig .tc := ⟨.hbm, 152, rfl⟩
abbrev main_v130 : Ref sig .tc := ⟨.hbm, 153, rfl⟩
abbrev main_cst_10 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_cst_11 : Ref sig .tc := ⟨.hbm, 160, rfl⟩
abbrev main_v136 : Ref sig .tc := ⟨.hbm, 161, rfl⟩
abbrev main_v137 : Ref sig .tc := ⟨.hbm, 162, rfl⟩
abbrev main_cst_12 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_cst_13 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩

abbrev nD : Nat := 1
abbrev τ : Topo := Topo.v7x

variable {F : FTy → Type} [FloatOps F]
-- ==== Proof.Head.lean ====
module

public import Idealize.ShloMosaic.PureOps.Ideal

/-!
# What follows the mean, for one row

The kernel and the reference treat a row of 128 means alike: layer norm, clamp to [-1, 1], layer
norm again. Here that chain is written once, over a plain row of 128 extended reals. The literals
stay as their bit patterns: both programs read the same ones.
-/

@[expose] public section

noncomputable section
namespace Cert.Head
open Idealize.ShloMosaic

/-- The average of a row of 128 values. -/
def average (v : Fin 128 → EReal) : EReal :=
  Ideal.div (∑ o, v o) (Ideal.ofBits FTy.f32 0x43000000#32)

/-- Layer norm of a row with scale `g` and offset `b`: the distance from the average, over the
square root of the variance plus the small literal, scaled and offset. -/
def layerNorm (v g b : Fin 128 → EReal) (o : Fin 128) : EReal :=
  (v o - average v)
      * Ideal.rsqrt (average (fun k => (v k - average v) * (v k - average v))
          + Ideal.ofBits FTy.f32 0x3727C5AC#32)
      * g o + b o

/-- A value clamped to [-1, 1]. -/
def clamp (a : EReal) : EReal := min 1 (max (Ideal.ofBits FTy.f32 0xBF800000#32) a)

/-- The whole chain: layer norm, clamp, layer norm. -/
def head (v g₁ b₁ g₂ b₂ : Fin 128 → EReal) : Fin 128 → EReal :=
  layerNorm (fun o => clamp (layerNorm v g₁ b₁ o)) g₂ b₂

end Cert.Head
-- ==== Proof.KernelBlock.lean ====
module

public import proofs.«01_k».proof.Proof.Gen.KernelIdeal.Skeleton
public import proofs.«01_k».proof.Proof.Head
public import Idealize.ShloMosaic.Lib.Pointwise
public import Idealize.ShloMosaic.PureOps.Ideal.Laws

/-!
# What one grid point of the kernel computes

Each row of the block the kernel body writes is the head of that row's means, where the mean of an
output channel is the channel sums of the image times the summed weights, times the named
constant, plus the bias.
-/

@[expose] public section

set_option maxRecDepth 16384

noncomputable section
namespace Cert.KernelIdeal.Block
open Cert.KernelIdeal Cert.KernelIdeal.Gen Idealize.ShloMosaic Cert.Head

/-- The named constant is the exact reciprocal of 16900, the number of output positions. -/
theorem inv_area :
    Named.named (F := Ideal) κ "inv_area" (φ := .f32) 0x38782F05#32 = (((16900)⁻¹ : ℝ) : EReal) :=
  IdealRules.named_const.ideal_named_scalar _ _ _ _ rfl

/-- The mean the kernel forms for one output channel, from the picture `x c` of every input channel,
the sixteen weights `w k c` of every input channel, and the bias: no convolution is left. -/
def mean (x : Fin 64 → Fin 64 → Fin 64 → EReal) (w : Fin 16 → Fin 64 → EReal) (b : EReal) : EReal :=
  (∑ c, (∑ h, ∑ l, x c h l) * ∑ k, w k c) * (((16900)⁻¹ : ℝ) : EReal) + b

/-- Row `r` of the block the kernel body stores is the head of that row's means. -/
theorem payload (P0 : Vec Ideal S8x64x64x64 .f32) (P1 : Vec Ideal S16x64x128 .f32)
    (P2 P3 P4 P5 P6 : Vec Ideal S1x128 .f32) (r : Fin 8) (o : Fin 128) :
    k0_pay1 (F := Ideal) (k0_pay2 P0 P1 P2 P3) (k0_pay3 P4) P5 P6 (ix2 r o)
      = head (fun o => mean (fun c h l => P0 (ix4 r c h l)) (fun k c => P1 (ix3 k c o))
            (P2 (ix2 0 o)))
          (fun o => P3 (ix2 0 o)) (fun o => P4 (ix2 0 o)) (fun o => P5 (ix2 0 o))
          (fun o => P6 (ix2 0 o)) o := by
  pointwise [k0_pay1, k0_pay2, k0_pay3, inv_area]
  rfl

end Cert.KernelIdeal.Block
-- ==== Proof.KernelWhole.lean ====
module

public import proofs.«01_k».proof.Proof.Gen.KernelIdeal.Value
public import proofs.«01_k».proof.Proof.KernelBlock
public import Idealize.ShloMosaic.Lib.Pipeline.ValueKit

/-!
# What the kernel returns

The four grid points each write eight rows, and the four blocks tile the result. So the array the
kernel returns is, row by row, the head of that sample's means, read off the arguments.
-/

@[expose] public section

set_option maxRecDepth 16384

noncomputable section
namespace Cert.KernelIdeal.Whole
open Cert.KernelIdeal Cert.KernelIdeal.Gen Idealize.ShloMosaic Cert.Head

/-- Where each window stands at grid point `t`: image and result move down with `t`, the rest stay. -/
theorem idx : ∀ t : Fin cfg0.N,
    win0_0.index t = ![t.val, 0, 0, 0] ∧ win0_1.index t = ![0, 0, 0] ∧ win0_2.index t = ![0, 0]
      ∧ win0_3.index t = ![0, 0] ∧ win0_4.index t = ![0, 0] ∧ win0_5.index t = ![0, 0]
      ∧ win0_6.index t = ![0, 0] ∧ win0_7.index t = ![t.val, 0] := by
  decide +kernel

/-- The row of the result that row `r` of grid point `t`'s block is. -/
def row (t : Fin cfg0.N) (r : Fin 8) : Fin 32 :=
  ⟨t.val * 8 + r.val, by have : t.val < 4 := t.isLt; omega⟩

/-- The head of the kernel's means, for sample `n` and output channel `o` of the arguments. -/
def result (x : FVec Ideal S32x64x64x64 .f32) (w : FVec Ideal S64x128x4x4 .f32)
    (b g₁ b₁ g₂ b₂ : FVec Ideal S128 .f32) (n : Fin 32) (o : Fin 128) : EReal :=
  head (fun o => Block.mean (fun c h l => x (ix4 n c h l))
      (fun t c => w (ix4 c o (⟨t.val / 4, by omega⟩ : Fin 4) (⟨t.val % 4, by omega⟩ : Fin 4)))
      (b (ix1 o)))
    (fun o => g₁ (ix1 o)) (fun o => b₁ (ix1 o)) (fun o => g₂ (ix1 o)) (fun o => b₂ (ix1 o)) o

variable (m : (ℓ : Loc nD τ sig) → Buf (Elt Ideal) ℓ) (c : Dev nD)

/-- Grid point `t`'s block of the image is the eight samples standing there. -/
theorem image (t : Fin cfg0.N) (r : Fin 8) (ch h l : Fin 64) :
    iblk m c 0 t (ix4 r ch h l)
      = (m ((c.tc : Thread nD τ).loc main_arg0) : FVec Ideal S32x64x64x64 .f32)
          (ix4 (row t r) ch h l) := by
  blk_ext [iblk, V_main_arg0, idx t, row]

/-- The weight block is the whole weight, its window's sixteen places in reading order. -/
theorem weight (t : Fin cfg0.N) (k : Fin 16) (ch : Fin 64) (o : Fin 128) :
    iblk m c 1 t (ix3 k ch o)
      = (m ((c.tc : Thread nD τ).loc main_arg1) : FVec Ideal S64x128x4x4 .f32)
          (ix4 ch o (⟨k.val / 4, by omega⟩ : Fin 4) (⟨k.val % 4, by omega⟩ : Fin 4)) := by
  blk_ext! [iblk, V, idx t]

/-- The bias block is the whole bias. -/
theorem bias (t : Fin cfg0.N) (o : Fin 128) :
    iblk m c 2 t (ix2 0 o)
      = (m ((c.tc : Thread nD τ).loc main_arg2) : FVec Ideal S128 .f32) (ix1 o) := by
  blk_ext! [iblk, V, idx t]

/-- The block of the first layer norm's scale is the whole of it. -/
theorem scale₁ (t : Fin cfg0.N) (o : Fin 128) :
    iblk m c 3 t (ix2 0 o)
      = (m ((c.tc : Thread nD τ).loc main_arg3) : FVec Ideal S128 .f32) (ix1 o) := by
  blk_ext! [iblk, V, idx t]

/-- The block of the first layer norm's offset is the whole of it. -/
theorem offset₁ (t : Fin cfg0.N) (o : Fin 128) :
    iblk m c 4 t (ix2 0 o)
      = (m ((c.tc : Thread nD τ).loc main_arg4) : FVec Ideal S128 .f32) (ix1 o) := by
  blk_ext! [iblk, V, idx t]

/-- The block of the second layer norm's scale is the whole of it. -/
theorem scale₂ (t : Fin cfg0.N) (o : Fin 128) :
    iblk m c 5 t (ix2 0 o)
      = (m ((c.tc : Thread nD τ).loc main_arg5) : FVec Ideal S128 .f32) (ix1 o) := by
  blk_ext! [iblk, V, idx t]

/-- The block of the second layer norm's offset is the whole of it. -/
theorem offset₂ (t : Fin cfg0.N) (o : Fin 128) :
    iblk m c 6 t (ix2 0 o)
      = (m ((c.tc : Thread nD τ).loc main_arg6) : FVec Ideal S128 .f32) (ix1 o) := by
  blk_ext! [iblk, V, idx t]

/-- The array the kernel returns, as one function of its arguments. -/
def out : FVec Ideal S32x128 .f32 := fun j =>
  result (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (j 0) (j 1)

/-- Once the grid is done, the result array is `out`. -/
theorem final : (dats m 0 c).arrAt 7 cfg0.N = out m c := by
  refine (dats m 0 c).arrAt_eq_of_covers 7 _ (by decide +kernel) fun t hf y => ?_
  blk_simp
  rw [after0_7]
  frame_out
  idx_vars y
  have place : ((View.whole main_v7).slice (win0_7.rect t)).emb (ix2 y0 y1) = ix2 (row t y0) y1 := by
    blk_ext [idx t, row]
  rw [Block.payload, place]
  simp only [image, weight, bias, scale₁, offset₁, scale₂, offset₂]
  rfl

/-- Every run of the kernel ends with `out` in the result buffer and the arguments as they were. -/
theorem run (ρ : Dev nD → PrngReg) :
    θ_run (defs (F := Ideal)) (onTc (τ := τ) (main (F := Ideal))) ⟨m, fun _ => 0, ρ⟩ fun r =>
      ∀ c : Dev nD, r.2.mem ((c.tc : Thread nD τ).loc main_v7) = out m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6) :=
  (θ_run _ _ _).mono (fun _ h c => ⟨(h c).1.trans (final m c), (h c).2⟩)
    (Cert.KernelIdeal.Value.run_blocks (F := Ideal) m ρ)

end Cert.KernelIdeal.Whole
-- ==== Proof.Dilate.lean ====
module

public import Idealize.ShloMosaic.PureOps.Ideal

/-!
# Windows of a dilated, padded line

A line of 64 numbers is spread out with one gap between neighbours and three empty places in
front. Four windows of 130 places are laid over it, each starting one place further on. Every
window holds all 64 numbers, so every window has the same sum.
-/

@[expose] public section

noncomputable section
namespace Cert.Dilate

/-- Place `p` of the padded line holds one of the 64 numbers. -/
def Holds (p : ℕ) : Prop := 3 ≤ p ∧ (p - 3) % 2 = 0 ∧ (p - 3) / 2 < 64

instance (p : ℕ) : Decidable (Holds p) := by unfold Holds; infer_instance

/-- The padded line at place `p`: the number standing there, zero in a gap. -/
def line {M : Type} [AddCommMonoid M] (f : Fin 64 → M) (p : ℕ) : M :=
  if h : Holds p then f ⟨(p - 3) / 2, h.2.2⟩ else 0

/-- The padded line as a sum with one term for each of the 64 numbers: number `a` counts at place
`3 + 2a` only. -/
theorem line_eq_sum {M : Type} [AddCommMonoid M] (f : Fin 64 → M) (p : ℕ) :
    line f p = ∑ a : Fin 64, if p = 3 + 2 * a.val then f a else 0 := by
  unfold line
  split_ifs with h
  · rw [Finset.sum_eq_single (⟨(p - 3) / 2, h.2.2⟩ : Fin 64)]
    · obtain ⟨h1, h2, h3⟩ := h
      rw [if_pos (by dsimp only; omega)]
    · intro b _ hb
      obtain ⟨h1, h2, h3⟩ := h
      refine if_neg fun e => hb (Fin.ext ?_)
      dsimp only
      omega
    · exact fun hn => absurd (Finset.mem_univ _) hn
  · refine (Finset.sum_eq_zero fun a _ => if_neg fun e => h ?_).symm
    have := a.isLt
    unfold Holds
    omega

/-- Every window of 130 places that starts at place 0, 1, 2 or 3 sums to the sum of all 64
numbers. -/
theorem sum_window {M : Type} [AddCommMonoid M] (f : Fin 64 → M) (k : ℕ) (hk : k < 4) :
    ∑ i : Fin 130, line f (k + i.val) = ∑ a : Fin 64, f a := by
  simp only [line_eq_sum]
  rw [Finset.sum_comm]
  refine Finset.sum_congr rfl fun a _ => ?_
  have ha := a.isLt
  rw [Finset.sum_eq_single (⟨3 + 2 * a.val - k, by omega⟩ : Fin 130)]
  · exact if_pos (by dsimp only; omega)
  · intro b _ hb
    refine if_neg fun e => hb (Fin.ext ?_)
    dsimp only
    omega
  · exact fun hn => absurd (Finset.mem_univ _) hn

/-- The padded picture: a 64 by 64 picture spread out in both directions. -/
def picture {M : Type} [AddCommMonoid M] (f : Fin 64 → Fin 64 → M) (p q : ℕ) : M :=
  line (fun a => line (f a) q) p

/-- Every 130 by 130 window of the padded picture that starts less than four places in sums to the
sum of the whole 64 by 64 picture. -/
theorem sum_picture {M : Type} [AddCommMonoid M] (f : Fin 64 → Fin 64 → M) (k l : ℕ) (hk : k < 4)
    (hl : l < 4) :
    ∑ i : Fin 130, ∑ j : Fin 130, picture f (k + i.val) (l + j.val)
      = ∑ a : Fin 64, ∑ b : Fin 64, f a b := by
  unfold picture
  rw [Finset.sum_comm]
  simp only [sum_window _ k hk]
  rw [Finset.sum_comm]
  simp only [sum_window _ l hl]

/-- A map that keeps sums and zero may be applied before or after the padding. -/
theorem map_picture {M N : Type} [AddCommMonoid M] [AddCommMonoid N] (φ : M →+ N)
    (f : Fin 64 → Fin 64 → M) (p q : ℕ) :
    φ (picture f p q) = picture (fun a b => φ (f a b)) p q := by
  unfold picture line
  split_ifs <;> simp

end Cert.Dilate
-- ==== Proof.ReferenceTap.lean ====
module

public import proofs.«01_k».proof.ReferenceIdeal
public import proofs.«01_k».proof.Proof.Dilate
public import Idealize.ShloMosaic.Lib.Pointwise
public import Idealize.ShloMosaic.PureOps.Ideal.Laws
public import Idealize.ShloMosaic.Lib.IdealHost

/-!
# The parts of the reference's convolution

The convolution is a sum of sixteen products, one for each place of the 4 by 4 weight. This module
says what one product reads, what the padded image holds, and what the turned weight holds.
-/

@[expose] public section

set_option maxRecDepth 16384

noncomputable section
namespace Cert.ReferenceIdeal.Tap
open Cert.ReferenceIdeal Idealize.ShloMosaic Cert.Dilate
variable [Facts]
open Facts₀ Facts

/-- The product for place `(k, l)` at position `(i, j)` sums, over the input channels, the weight at
that place times the image `k` rows down and `l` columns along. -/
theorem tap (W : FVec Ideal S128x64x4x4 .f32) (X : FVec Ideal S32x64x133x133 .f32) (k l : ℕ)
    (hk : k < 4) (hl : l < 4)
    (hw : S128x64x4x4.Slices ![0, 0, k, l] S128x64x1x1)
    (hx : S32x64x133x133.Slices ![0, 0, k, l] S32x64x130x130)
    (n : Fin 32) (o : Fin 128) (i j : Fin 130) :
    transpose S32x128x130x130 [1, 0, 2, 3]
        (Host.dotGeneral (F := Ideal) dot_S128x64_S32x64x130x130_S128x32x130x130_1_1_0_023_n_n none
          (shapeCast S128x64 (extractStridedSlice S128x64x1x1 ![0, 0, k, l] W hw) shapeCasts_S128x64x1x1_S128x64)
          (extractStridedSlice S32x64x130x130 ![0, 0, k, l] X hx))
        transposes_S128x32x130x130_S32x128x130x130_1_0_2_3 (ix4 n o i j)
      = ∑ c : Fin 64, W (ix4 o c (⟨k, hk⟩ : Fin 4) (⟨l, hl⟩ : Fin 4))
          * X (ix4 n c (⟨k + i.val, by omega⟩ : Fin 133) (⟨l + j.val, by omega⟩ : Fin 133)) := by
  pointwise

/-- The padded image of one sample and channel is its 64 by 64 picture spread out. -/
theorem padded (x : FVec Ideal S32x64x64x64 .f32) (n : Fin 32) (c : Fin 64) (p q : Fin 133) :
    pad S32x64x133x133 ![0, 0, 3, 3] ![0, 0, 3, 3] ![0, 0, 1, 1] x
        (constant (F := Ideal) S_ .f32 0x00000000#32) pads_S32x64x64x64_S32x64x133x133_000_000_331_331 h_S_
        (ix4 n c p q)
      = picture (fun a b => x (ix4 n c a b)) p.val q.val := by
  pointwise
  unfold picture line
  by_cases hp : Holds p.val <;> by_cases hq : Holds q.val <;>
    simp only [Holds] at hp hq <;> simp [Holds, hp, hq]

/-- The turned weight swaps the two channel axes and runs the 4 by 4 window backwards. -/
theorem turned (w : FVec Ideal S64x128x4x4 .f32) (o : Fin 128) (c : Fin 64) (k l : Fin 4) :
    transpose S128x64x4x4 [1, 0, 2, 3] (Host.reverse [2, 3] w)
        transposes_S64x128x4x4_S128x64x4x4_1_0_2_3 (ix4 o c k l)
      = w (ix4 c o (Fin.rev k) (Fin.rev l)) := by
  pointwise
  rfl

end Cert.ReferenceIdeal.Tap
-- ==== Proof.ReferenceMean.lean ====
module

public import proofs.«01_k».proof.Proof.Gen.ReferenceIdeal.Run
public import proofs.«01_k».proof.Proof.ReferenceTap
public import Idealize.ShloMosaic.Lib.Tactic.CleanTypes

/-!
# The mean the reference forms

The reference lays out the whole convolution, adds the bias at every position, and averages. This
module reads that average as one formula of the arguments.
-/

@[expose] public section

set_option maxRecDepth 16384

noncomputable section
namespace Cert.ReferenceIdeal.Mean
open Cert.ReferenceIdeal Cert.ReferenceIdeal.Gen Cert.ReferenceIdeal.Value Idealize.ShloMosaic
open Cert.Dilate

/-- One output position of the convolution, from the picture `x c` and the 4 by 4 weights `w c` of
every input channel: the turned weights laid over the padded pictures at `(i, j)`. -/
def conv (x : Fin 64 → Fin 64 → Fin 64 → EReal) (w : Fin 64 → Fin 4 → Fin 4 → EReal)
    (i j : Fin 130) : EReal :=
  ∑ k : Fin 4, ∑ l : Fin 4, ∑ c : Fin 64,
    w c k.rev l.rev * picture (x c) (k.val + i.val) (l.val + j.val)

/-- The mean of one output channel over all 130 by 130 positions, the bias added at each. -/
def mean (x : Fin 64 → Fin 64 → Fin 64 → EReal) (w : Fin 64 → Fin 4 → Fin 4 → EReal)
    (b : EReal) : EReal :=
  Ideal.div (∑ i, ∑ j, (conv x w i j + b)) (Ideal.ofBits FTy.f32 0x46840800#32)

/-- The padded image the reference builds, read at a place. -/
theorem image (V0 : Valuation τ sig (Elt Ideal)) (n : Fin 32) (c : Fin 64) (p q : Fin 133) :
    (res_main_v2 V0 : FVec Ideal S32x64x133x133 .f32) (ix4 n c p q)
      = picture (M := EReal) (fun a b => (V0 (Proc.devRef .tc main_arg0) : FVec Ideal S32x64x64x64 .f32)
          (ix4 n c a b)) p.val q.val :=
  Tap.padded _ n c p q

/-- The turned weight the reference builds, read at a place. -/
theorem weight (V0 : Valuation τ sig (Elt Ideal)) (o : Fin 128) (c : Fin 64) (k l : Fin 4) :
    (res_main_v1 V0 : FVec Ideal S128x64x4x4 .f32) (ix4 o c k l)
      = (V0 (Proc.devRef .tc main_arg1) : FVec Ideal S64x128x4x4 .f32) (ix4 c o k.rev l.rev) :=
  Tap.turned _ o c k l

/-- The reference's mean for sample `n` and output channel `o` is the mean of the convolution of that
sample's pictures with that channel's weights. -/
theorem mean_read (V0 : Valuation τ sig (Elt Ideal)) (n : Fin 32) (o : Fin 128) :
    (res_main_v103 V0 : FVec Ideal S32x128 .f32) (ix2 n o)
      = mean (fun c a b => (V0 (Proc.devRef .tc main_arg0) : FVec Ideal S32x64x64x64 .f32)
            (ix4 n c a b))
          (fun c k l => (V0 (Proc.devRef .tc main_arg1) : FVec Ideal S64x128x4x4 .f32)
            (ix4 c o k l))
          ((V0 (Proc.devRef .tc main_arg2) : FVec Ideal S128 .f32) (ix1 o)) := by
  unfold res_main_v103 res_main_v61
  generalize hW : res_main_v1 V0 = W
  generalize hX : res_main_v2 V0 = X
  clean_types
  simp only [mean, conv, Fin.sum_univ_four]
  pointwise
  subst hW hX
  simp only [image, weight, add_assoc]

end Cert.ReferenceIdeal.Mean
-- ==== Proof.ReferenceRow.lean ====
module

public import proofs.«01_k».proof.Proof.ReferenceMean
public import proofs.«01_k».proof.Proof.Head

/-!
# What the reference returns

Row `n` of the reference's result is the head of that sample's means.
-/

@[expose] public section

set_option maxRecDepth 16384

noncomputable section
namespace Cert.ReferenceIdeal.Row
open Cert.ReferenceIdeal Cert.ReferenceIdeal.Gen Cert.ReferenceIdeal.Value Idealize.ShloMosaic
open Cert.Head

/-- The clamped first layer norm, read at row `n`: it depends on that row of means only. -/
theorem clamped (V0 : Valuation τ sig (Elt Ideal)) (n : Fin 32) (o : Fin 128) :
    (res_main_v128 V0 : FVec Ideal S32x128 .f32) (ix2 n o)
      = clamp (layerNorm (fun o => (res_main_v103 V0 : FVec Ideal S32x128 .f32) (ix2 n o))
          (fun o => (V0 (Proc.devRef .tc main_arg3) : FVec Ideal S128 .f32) (ix1 o))
          (fun o => (V0 (Proc.devRef .tc main_arg4) : FVec Ideal S128 .f32) (ix1 o)) o) := by
  unfold res_main_v128 res_main_v109 res_main_v107
  generalize res_main_v103 V0 = M
  clean_types
  simp only [id]
  pointwise
  rfl

/-- The second layer norm, read at row `n` of the clamped values `H`. -/
theorem second (V0 : Valuation τ sig (Elt Ideal)) (n : Fin 32) (o : Fin 128) :
    (addf (mulf (mulf (subf (res_main_v128 V0) (broadcastInDim S32x128 ![0, 1] bcast_S32x1_S32x128_0_1 (res_main_v132 V0))) (broadcastInDim S32x128 ![0, 1] bcast_S32x1_S32x128_0_1 (Host.rsqrt (addf (Host.divf (broadcastInDim S32x1 ![0] bcast_S32_S32x1_0 (Host.reduceAdd (mulf (res_main_v134 V0) (res_main_v134 V0)) (constant S_ .f32 0x00000000#32) reducesTo_S32x128_S32_d1 h_S_)) (broadcastInDim S32x1 ![] bcast_S_S32x1 (constant S_ .f32 0x43000000#32))) (broadcastInDim S32x1 ![] bcast_S_S32x1 (constant S_ .f32 0x3727C5AC#32)))))) (broadcastInDim S32x128 ![0, 1] bcast_S1x128_S32x128_0_1 (broadcastInDim S1x128 ![1] bcast_S128_S1x128_1 (V0 (Proc.devRef .tc main_arg5))))) (broadcastInDim S32x128 ![0, 1] bcast_S1x128_S32x128_0_1 (broadcastInDim S1x128 ![1] bcast_S128_S1x128_1 (V0 (Proc.devRef .tc main_arg6)))) : FVec Ideal S32x128 .f32) (ix2 n o)
      = layerNorm (fun o => (res_main_v128 V0 : FVec Ideal S32x128 .f32) (ix2 n o))
          (fun o => (V0 (Proc.devRef .tc main_arg5) : FVec Ideal S128 .f32) (ix1 o))
          (fun o => (V0 (Proc.devRef .tc main_arg6) : FVec Ideal S128 .f32) (ix1 o)) o := by
  unfold res_main_v134 res_main_v132
  generalize res_main_v128 V0 = H
  clean_types
  pointwise
  rfl

/-- The head of the reference's means, for sample `n` and output channel `o` of the arguments. -/
def result (x : FVec Ideal S32x64x64x64 .f32) (w : FVec Ideal S64x128x4x4 .f32)
    (b g₁ b₁ g₂ b₂ : FVec Ideal S128 .f32) (n : Fin 32) (o : Fin 128) : EReal :=
  head (fun o => Mean.mean (fun c h l => x (ix4 n c h l)) (fun c k l => w (ix4 c o k l)) (b (ix1 o)))
    (fun o => g₁ (ix1 o)) (fun o => b₁ (ix1 o)) (fun o => g₂ (ix1 o)) (fun o => b₂ (ix1 o)) o

/-- Every run of the reference ends with the head of its means in the result buffer, and with the
arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ c : Dev nD, (r.2.mem ((c.tc : Thread nD τ).loc main_v152) = fun j =>
            result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (j 0) (j 1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6) := by
  refine (θ_run _ _ _).mono (fun _ h c => ⟨(h c).1.trans ?_, (h c).2⟩)
    (Cert.ReferenceIdeal.Value.run (F := Ideal) m ρ)
  funext j
  idx_vars j
  refine (second (StableHlo.launchContents m c) j0 j1).trans ?_
  simp only [clamped, Mean.mean_read]
  rfl

end Cert.ReferenceIdeal.Row
-- ==== Proof.Consts.lean ====
module

public import Idealize.ShloMosaic.PureOps.Ideal
public import Mathlib.Tactic.NormNum

/-!
# What the literals mean

Only the literals whose value matters: the number of output positions, and infinity.
-/

@[expose] public section

noncomputable section
namespace Cert.Consts
open Idealize.ShloMosaic

/-- The pattern the reference divides by is the number of output positions, 130 times 130. -/
theorem positions : Ideal.ofBits FTy.f32 0x46840800#32 = ((16900 : ℝ) : EReal) := by
  simp [Ideal.ofBits, Ideal.ieee, -EReal.coe_mul]
  norm_num

/-- The pattern the precondition compares with is positive infinity. -/
theorem infinity : Ideal.ofBits FTy.f32 0x7F800000#32 = (⊤ : EReal) := by
  simp [Ideal.ofBits, Ideal.ieee]

end Cert.Consts
-- ==== Proof.MeanEq.lean ====
module

public import proofs.«01_k».proof.Proof.KernelBlock
public import proofs.«01_k».proof.Proof.ReferenceMean
public import proofs.«01_k».proof.Proof.Consts

/-!
# The two means agree

The mean of a strided transposed convolution needs no convolution: every tap of the weight meets
every pixel exactly once. For a finite image and a finite weight the sums may be exchanged, and the
reference's mean is the kernel's.
-/

@[expose] public section

noncomputable section
namespace Cert.MeanEq
open Idealize.ShloMosaic Cert.Dilate

/-- The inclusion of the reals in the extended reals, as a map that keeps sums. -/
def incl : ℝ →+ EReal where
  toFun r := (r : EReal)
  map_zero' := rfl
  map_add' := EReal.coe_add

/-- A finite sum of reals may be formed before or after the inclusion. -/
theorem coe_sum {ι : Type} (s : Finset ι) (f : ι → ℝ) :
    ∑ a ∈ s, ((f a : ℝ) : EReal) = ((∑ a ∈ s, f a : ℝ) : EReal) :=
  (map_sum incl f s).symm

/-- A padded picture of reals may be formed before or after the inclusion. -/
theorem coe_picture (f : Fin 64 → Fin 64 → ℝ) (p q : ℕ) :
    picture (fun a b => ((f a b : ℝ) : EReal)) p q = ((picture f p q : ℝ) : EReal) :=
  (map_picture incl f p q).symm

/-- Two outer sums may be taken inside a third. -/
theorem sum_inside {α β γ : Type} [Fintype α] [Fintype β] [Fintype γ] (f : α → β → γ → ℝ) :
    ∑ i, ∑ j, ∑ k, f i j k = ∑ k, ∑ i, ∑ j, f i j k := by
  rw [Finset.sum_comm]
  simp only [Finset.sum_comm (s := (Finset.univ : Finset α)) (t := (Finset.univ : Finset γ))]
  rw [Finset.sum_comm]
  refine Finset.sum_congr rfl fun k _ => Finset.sum_comm

/-- Summing a 4 by 4 window backwards, or its sixteen places in reading order, gives the same. -/
theorem sum_sixteen (g : Fin 4 → Fin 4 → ℝ) :
    ∑ k : Fin 4, ∑ l : Fin 4, g k.rev l.rev
      = ∑ t : Fin 16, g ⟨t.val / 4, by omega⟩ ⟨t.val % 4, by omega⟩ := by
  have hl : ∀ k : Fin 4, ∑ l : Fin 4, g k l.rev = ∑ l, g k l := fun k =>
    Equiv.sum_comp Fin.revPerm (g k)
  simp only [hl]
  refine (Equiv.sum_comp Fin.revPerm fun k => ∑ l, g k l).trans ?_
  rw [← Finset.sum_product', Finset.univ_product_univ]
  exact (Equiv.sum_comp (finProdFinEquiv (m := 4) (n := 4)).symm (fun z => g z.1 z.2)).symm

/-- Over the reals, the convolution summed over all output positions is, channel by channel, the sum
of the picture times the sum of the weights. -/
theorem sum_conv (x : Fin 64 → Fin 64 → Fin 64 → ℝ) (w : Fin 64 → Fin 4 → Fin 4 → ℝ) :
    ∑ i : Fin 130, ∑ j : Fin 130, ∑ k : Fin 4, ∑ l : Fin 4, ∑ c : Fin 64,
        w c k.rev l.rev * picture (x c) (k.val + i.val) (l.val + j.val)
      = ∑ c, (∑ h, ∑ l, x c h l) * ∑ t : Fin 16, w c ⟨t.val / 4, by omega⟩ ⟨t.val % 4, by omega⟩ := by
  have hwin : ∀ (k l : Fin 4) (c : Fin 64),
      ∑ i : Fin 130, ∑ j : Fin 130, w c k.rev l.rev * picture (x c) (k.val + i.val) (l.val + j.val)
        = (∑ h, ∑ l, x c h l) * w c k.rev l.rev := by
    intro k l c
    simp only [← Finset.mul_sum]
    rw [sum_picture (x c) k.val l.val k.isLt l.isLt, mul_comm]
  rw [sum_inside]
  simp only [sum_inside (α := Fin 130) (β := Fin 130) (γ := Fin 4),
    sum_inside (α := Fin 130) (β := Fin 130) (γ := Fin 64), hwin]
  rw [sum_inside]
  refine Finset.sum_congr rfl fun c _ => ?_
  rw [← sum_sixteen (w c)]
  simp only [Finset.mul_sum]

/-- The division by the number of positions undoes the bias being added at every position: for a real
sum `S` and any bias `b`, infinite ones included. -/
theorem bias_out (S : ℝ) (b : EReal) :
    Ideal.div ((S : EReal) + ∑ _i : Fin 130, ∑ _j : Fin 130, b) ((16900 : ℝ) : EReal)
      = (S : EReal) * (((16900)⁻¹ : ℝ) : EReal) + b := by
  have hb : ∑ _i : Fin 130, ∑ _j : Fin 130, b = ((16900 : ℝ) : EReal) * b := by
    have hn : ∀ y : EReal, ∑ _i : Fin 130, y = ((130 : ℝ) : EReal) * y := fun y => by
      rw [Finset.sum_const, Finset.card_univ, Fintype.card_fin, EReal.nsmul_eq_mul]
      rfl
    rw [hn, hn, ← mul_assoc, ← EReal.coe_mul]
    norm_num
  rw [hb, Ideal.div_coe (y := 16900) (by norm_num), one_div, mul_comm,
    EReal.left_distrib_of_nonneg_of_ne_top (by norm_num) (EReal.coe_ne_top _), ← mul_assoc,
    ← EReal.coe_mul (16900)⁻¹ 16900, inv_mul_cancel₀ (by norm_num), EReal.coe_one, one_mul,
    mul_comm (S : EReal)]

/-- For a finite image and a finite weight the reference's mean is the kernel's. -/
theorem mean_eq (x : Fin 64 → Fin 64 → Fin 64 → ℝ) (w : Fin 64 → Fin 4 → Fin 4 → ℝ) (b : EReal) :
    ReferenceIdeal.Mean.mean (fun c h l => ((x c h l : ℝ) : EReal))
        (fun c k l => ((w c k l : ℝ) : EReal)) b
      = KernelIdeal.Block.mean (fun c h l => ((x c h l : ℝ) : EReal))
          (fun t c => ((w c ⟨t.val / 4, by omega⟩ ⟨t.val % 4, by omega⟩ : ℝ) : EReal)) b := by
  unfold ReferenceIdeal.Mean.mean ReferenceIdeal.Mean.conv KernelIdeal.Block.mean
  simp only [Finset.sum_add_distrib, coe_picture, ← EReal.coe_mul, coe_sum]
  rw [Consts.positions, bias_out, sum_conv, EReal.coe_mul]

end Cert.MeanEq
-- ==== Proof.Finite.lean ====
module

public import proofs.«01_k».proof.Pre_finite
public import proofs.«01_k».proof.Proof.Consts
public import Idealize.ShloMosaic.Lib.Pointwise
public import Idealize.ShloMosaic.PureOps.Ideal.Laws
public import Idealize.ShloMosaic.Lib.IdealHost

/-!
# What the precondition gives

A value whose size is below infinity is a real number. So the precondition hands over a real image
and a real weight.
-/

@[expose] public section

set_option maxRecDepth 16384

noncomputable section
namespace Cert.Finite
open Idealize.ShloMosaic Cert.Pre_finite

/-- An extended real below infinity in size is a real. -/
theorem real_of_abs_lt (a : EReal) (h : max a (-a) < ⊤) : ((a.toReal : ℝ) : EReal) = a := by
  refine EReal.coe_toReal (fun e => ?_) (fun e => ?_)
  · simp [e] at h
  · simp [e] at h

/-- The bit a comparison leaves is set only when the comparison holds. -/
theorem of_bit {p : Prop} [Decidable p] (h : BitVec.ofBool (decide p) = 1#1) : p := by
  by_contra hn
  rw [decide_eq_false hn] at h
  exact absurd h (by decide)

variable [Cert.Pre_finite.Facts]

/-- Under the precondition every pixel of the image is a real. -/
theorem image (x : FVec Ideal S32x64x64x64 .f32) (w : FVec Ideal S64x128x4x4 .f32)
    (b g₁ b₁ g₂ b₂ : FVec Ideal S128 .f32)
    (h : (fn (F := Ideal) x w b g₁ b₁ g₂ b₂).1 = fun _ => 1#1) (n : Fin 32) (c p q : Fin 64) :
    (((x (ix4 n c p q) : EReal).toReal : ℝ) : EReal) = x (ix4 n c p q) := by
  refine real_of_abs_lt _ ?_
  have e := congrFun h (ix4 n c p q)
  revert e
  pointwise [fn, Consts.infinity]
  exact of_bit

/-- Under the precondition every weight is a real. -/
theorem weight (x : FVec Ideal S32x64x64x64 .f32) (w : FVec Ideal S64x128x4x4 .f32)
    (b g₁ b₁ g₂ b₂ : FVec Ideal S128 .f32)
    (h : (fn (F := Ideal) x w b g₁ b₁ g₂ b₂).2 = fun _ => 1#1) (c : Fin 64) (o : Fin 128)
    (k l : Fin 4) :
    (((w (ix4 c o k l) : EReal).toReal : ℝ) : EReal) = w (ix4 c o k l) := by
  refine real_of_abs_lt _ ?_
  have e := congrFun h (ix4 c o k l)
  revert e
  pointwise [fn, Consts.infinity]
  exact of_bit

end Cert.Finite
-- ==== Proof.Agree.lean ====
module

public import proofs.«01_k».proof.Proof.KernelWhole
public import proofs.«01_k».proof.Proof.ReferenceRow
public import proofs.«01_k».proof.Proof.MeanEq
public import proofs.«01_k».proof.Proof.Finite

/-!
# Kernel and reference agree

Under the precondition the means agree, and the head does the same to equal means.
-/

@[expose] public section

noncomputable section
namespace Cert.Agree
open Idealize.ShloMosaic Cert.Pre_finite

variable [Cert.Pre_finite.Facts]

/-- For a finite image and a finite weight the reference and the kernel return the same value for
every sample and every output channel. -/
theorem result_eq (x : FVec Ideal S32x64x64x64 .f32) (w : FVec Ideal S64x128x4x4 .f32)
    (b g₁ b₁ g₂ b₂ : FVec Ideal S128 .f32)
    (hx : (fn (F := Ideal) x w b g₁ b₁ g₂ b₂).1 = fun _ => 1#1)
    (hw : (fn (F := Ideal) x w b g₁ b₁ g₂ b₂).2 = fun _ => 1#1) (n : Fin 32) (o : Fin 128) :
    ReferenceIdeal.Row.result x w b g₁ b₁ g₂ b₂ n o
      = KernelIdeal.Whole.result x w b g₁ b₁ g₂ b₂ n o := by
  unfold ReferenceIdeal.Row.result KernelIdeal.Whole.result
  refine congrArg (fun v : Fin 128 → EReal => Head.head v _ _ _ _ o) (funext fun o => ?_)
  have e := MeanEq.mean_eq (fun c h l => (x (ix4 n c h l) : EReal).toReal)
    (fun c k l => (w (ix4 c o k l) : EReal).toReal) (b (ix1 o))
  simp only [Finite.image x w b g₁ b₁ g₂ b₂ hx, Finite.weight x w b g₁ b₁ g₂ b₂ hw] at e
  exact e

end Cert.Agree
-- ==== Proof.lean ====
module

public import proofs.«01_k».proof.Defs
public import proofs.«01_k».proof.Proof.Agree
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference leaves its arguments as they were and every semaphore at zero. -/
theorem reference_frame : Cert.quiescent_ReferenceIdeal := fun m ρ _ =>
  (θ_run (Cert.ReferenceIdeal.defs (F := Ideal)) _ _).mono
    (fun r h => And.intro (fun c => (h c).2)
      (Idealize.ShloMosaic.sem_eq_zero_of_no_sems (by decide) r.2))
    (Cert.ReferenceIdeal.Value.run (F := Ideal) m ρ)

/-- The named constant is the literal it stands for up to its stated real value. -/
theorem preserves : Cert.preserves_Kernel_KernelIdeal :=
  IdealRules.named_const.statement Cert.KernelIdeal.κ "inv_area" .f32 0x38782F05#32
    (((16900)⁻¹ : ℝ) : EReal) rfl

/-- Under the precondition the kernel and the reference return the same array. -/
theorem algebraic : Cert.algebraic_KernelIdeal_ReferenceIdeal_pre_finite := by
  intro m ρ m' ρ' hpre hagree
  refine ⟨fun c => KernelIdeal.Whole.out m c, KernelIdeal.Whole.run m ρ,
    (θ_run _ _ _).mono (fun _ h c => ⟨(h c).1.trans ?_, (h c).2⟩) (ReferenceIdeal.Row.run m' ρ')⟩
  obtain ⟨e0, e1, e2, e3, e4, e5, e6⟩ := hagree c
  funext j
  rw [e0, e1, e2, e3, e4, e5, e6]
  exact Agree.result_eq _ _ _ _ _ _ _ (hpre c).1 (hpre c).2 _ _

/-- The certificate: the frames, the rewrite, and the value of the result. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ,
  fun m ρ _ => Cert.KernelIdeal.Gen.frame m ρ, reference_frame,
  fun m ρ _ => reference_frame m ρ trivial, preserves, algebraic⟩

end Cert.Proof

end
